-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4x2x57344x4 : Shape := ⟨5, ![16, 4, 2, 57344, 4]⟩
abbrev S16x4x2x448x128x4 : Shape := ⟨6, ![16, 4, 2, 448, 128, 4]⟩
abbrev S16x4x2x448x4x128 : Shape := ⟨6, ![16, 4, 2, 448, 4, 128]⟩
abbrev S128x1792x128 : Shape := ⟨3, ![128, 1792, 128]⟩
abbrev S128x1664x128 : Shape := ⟨3, ![128, 1664, 128]⟩
abbrev S128x128x128 : Shape := ⟨3, ![128, 128, 128]⟩
abbrev S16x4x2x416x4x128 : Shape := ⟨6, ![16, 4, 2, 416, 4, 128]⟩
abbrev S16x4x2x416x128x4 : Shape := ⟨6, ![16, 4, 2, 416, 128, 4]⟩
abbrev S16x4x2x53248x4 : Shape := ⟨5, ![16, 4, 2, 53248, 4]⟩
abbrev S16x4x2x4x8x4x128 : Shape := ⟨7, ![16, 4, 2, 4, 8, 4, 128]⟩
abbrev S16x4x2x8x128x4x4 : Shape := ⟨7, ![16, 4, 2, 8, 128, 4, 4]⟩
abbrev S16x4x2x1024x4x4 : Shape := ⟨6, ![16, 4, 2, 1024, 4, 4]⟩
abbrev S1x1792x128 : Shape := ⟨3, ![1, 1792, 128]⟩
abbrev S1x1664x128 : Shape := ⟨3, ![1, 1664, 128]⟩
abbrev S1x128x128 : Shape := ⟨3, ![1, 128, 128]⟩
abbrev S1x256x128 : Shape := ⟨3, ![1, 256, 128]⟩
abbrev S256x128 : Shape := ⟨2, ![256, 128]⟩
abbrev S1x1024x128 : Shape := ⟨3, ![1, 1024, 128]⟩
abbrev S1024x128 : Shape := ⟨2, ![1024, 128]⟩
abbrev S128x128 : Shape := ⟨2, ![128, 128]⟩
abbrev S128x128x1 : Shape := ⟨3, ![128, 128, 1]⟩
abbrev S16x2x4x128 : Shape := ⟨4, ![16, 2, 4, 128]⟩
abbrev S16x4x128 : Shape := ⟨3, ![16, 4, 128]⟩
abbrev S64x128 : Shape := ⟨2, ![64, 128]⟩
abbrev S1x64x128 : Shape := ⟨3, ![1, 64, 128]⟩
abbrev S4x8x4x128 : Shape := ⟨4, ![4, 8, 4, 128]⟩
abbrev S4x4x128 : Shape := ⟨3, ![4, 4, 128]⟩
abbrev S16x128 : Shape := ⟨2, ![16, 128]⟩
abbrev S1x16x128 : Shape := ⟨3, ![1, 16, 128]⟩

abbrev nBuf : Space → Nat
  | .hbm => 12
  | .vmem => 6
  | .smem => 0
  | _ => 0

abbrev bufTy : (tb : Table) → Fin (tcTables nBuf tb) → BufTy
  | .hbm, ⟨0, _⟩ => ⟨S16x4x2x57344x4, .f32⟩
  | .hbm, ⟨1, _⟩ => ⟨S16x4x2x448x128x4, .f32⟩
  | .hbm, ⟨2, _⟩ => ⟨S16x4x2x448x4x128, .f32⟩
  | .hbm, ⟨3, _⟩ => ⟨S128x1792x128, .f32⟩
  | .hbm, ⟨4, _⟩ => ⟨S128x1664x128, .f32⟩
  | .hbm, ⟨5, _⟩ => ⟨S128x128x128, .f32⟩
  | .hbm, ⟨6, _⟩ => ⟨S16x4x2x416x4x128, .f32⟩
  | .hbm, ⟨7, _⟩ => ⟨S16x4x2x416x128x4, .f32⟩
  | .hbm, ⟨8, _⟩ => ⟨S16x4x2x53248x4, .f32⟩
  | .hbm, ⟨9, _⟩ => ⟨S16x4x2x4x8x4x128, .f32⟩
  | .hbm, ⟨10, _⟩ => ⟨S16x4x2x8x128x4x4, .f32⟩
  | .hbm, ⟨11, _⟩ => ⟨S16x4x2x1024x4x4, .f32⟩
  | .local _ .vmem, ⟨0, _⟩ => ⟨S1x1792x128, .f32⟩
  | .local _ .vmem, ⟨1, _⟩ => ⟨S1x1792x128, .f32⟩
  | .local _ .vmem, ⟨2, _⟩ => ⟨S1x1664x128, .f32⟩
  | .local _ .vmem, ⟨3, _⟩ => ⟨S1x1664x128, .f32⟩
  | .local _ .vmem, ⟨4, _⟩ => ⟨S1x128x128, .f32⟩
  | .local _ .vmem, ⟨5, _⟩ => ⟨S1x128x128, .f32⟩
  | _, _ => ⟨S16x4x2x57344x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3_0 : Ref sig .tc := ⟨.hbm, 4, rfl⟩
abbrev main_call0_v3_1 : Ref sig .tc := ⟨.hbm, 5, rfl⟩
abbrev main_call0_v4 : Ref sig .tc := ⟨.hbm, 6, rfl⟩
abbrev main_call0_v5 : Ref sig .tc := ⟨.hbm, 7, rfl⟩
abbrev main_v0_0 : Ref sig .tc := ⟨.hbm, 8, rfl⟩
abbrev main_call0_v7 : Ref sig .tc := ⟨.hbm, 9, rfl⟩
abbrev main_call0_v8 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1792x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1664x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x4x2x57344x4 : Shape := ⟨5, ![16, 4, 2, 57344, 4]⟩
abbrev S2048 : Shape := ⟨1, ![2048]⟩
abbrev S_ : Shape := ⟨0, ![]⟩
abbrev S4096 : Shape := ⟨1, ![4096]⟩
abbrev S8192 : Shape := ⟨1, ![8192]⟩
abbrev S32768 : Shape := ⟨1, ![32768]⟩
abbrev S53248 : Shape := ⟨1, ![53248]⟩
abbrev S4096x1 : Shape := ⟨2, ![4096, 1]⟩
abbrev S1 : Shape := ⟨1, ![1]⟩
abbrev S1x1 : Shape := ⟨2, ![1, 1]⟩
abbrev S16x4x2x4096x4 : Shape := ⟨5, ![16, 4, 2, 4096, 4]⟩
abbrev S53248x1 : Shape := ⟨2, ![53248, 1]⟩
abbrev S16x4x2x53248x4 : Shape := ⟨5, ![16, 4, 2, 53248, 4]⟩
abbrev S16x4x2x1024x4x4 : Shape := ⟨6, ![16, 4, 2, 1024, 4, 4]⟩

abbrev nBuf : Space → Nat
  | .hbm => 87
  | .vmem => 0
  | .smem => 0
  | _ => 0

abbrev bufTy : (tb : Table) → Fin (tcTables nBuf tb) → BufTy
  | .hbm, ⟨0, _⟩ => ⟨S16x4x2x57344x4, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S4096, .i32⟩
  | .hbm, ⟨16, _⟩ => ⟨S8192, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S32768, .i32⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S53248, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S1, .i32⟩
  | .hbm, ⟨49, _⟩ => ⟨S_, .i32⟩
  | .hbm, ⟨50, _⟩ => ⟨S4096x1, .i32⟩
  | .hbm, ⟨51, _⟩ => ⟨S4096x1, .i1⟩
  | .hbm, ⟨52, _⟩ => ⟨S1x1, .i32⟩
  | .hbm, ⟨53, _⟩ => ⟨S4096x1, .i32⟩
  | .hbm, ⟨54, _⟩ => ⟨S4096x1, .i1⟩
  | .hbm, ⟨55, _⟩ => ⟨S4096x1, .i1⟩
  | .hbm, ⟨56, _⟩ => ⟨S_, .i1⟩
  | .hbm, ⟨57, _⟩ => ⟨S4096, .i1⟩
  | .hbm, ⟨58, _⟩ => ⟨S16x4x2x4096x4, .f32⟩
  | .hbm, ⟨59, _⟩ => ⟨S16x4x2x4096x4, .i1⟩
  | .hbm, ⟨60, _⟩ => ⟨S_, .f32⟩
  | .hbm, ⟨61, _⟩ => ⟨S16x4x2x4096x4, .f32⟩
  | .hbm, ⟨62, _⟩ => ⟨S16x4x2x4096x4, .f32⟩
  | .hbm, ⟨63, _⟩ => ⟨S_, .i32⟩
  | .hbm, ⟨64, _⟩ => ⟨S53248, .i32⟩
  | .hbm, ⟨65, _⟩ => ⟨S53248, .i1⟩
  | .hbm, ⟨66, _⟩ => ⟨S_, .i32⟩
  | .hbm, ⟨67, _⟩ => ⟨S53248, .i32⟩
  | .hbm, ⟨68, _⟩ => ⟨S53248, .i32⟩
  | .hbm, ⟨69, _⟩ => ⟨S53248, .i32⟩
  | .hbm, ⟨70, _⟩ => ⟨S53248x1, .i32⟩
  | .hbm, ⟨71, _⟩ => ⟨S1, .i32⟩
  | .hbm, ⟨72, _⟩ => ⟨S_, .i32⟩
  | .hbm, ⟨73, _⟩ => ⟨S53248x1, .i32⟩
  | .hbm, ⟨74, _⟩ => ⟨S53248x1, .i1⟩
  | .hbm, ⟨75, _⟩ => ⟨S1x1, .i32⟩
  | .hbm, ⟨76, _⟩ => ⟨S53248x1, .i32⟩
  | .hbm, ⟨77, _⟩ => ⟨S53248x1, .i1⟩
  | .hbm, ⟨78, _⟩ => ⟨S53248x1, .i1⟩
  | .hbm, ⟨79, _⟩ => ⟨S_, .i1⟩
  | .hbm, ⟨80, _⟩ => ⟨S53248, .i1⟩
  | .hbm, ⟨81, _⟩ => ⟨S16x4x2x53248x4, .f32⟩
  | .hbm, ⟨82, _⟩ => ⟨S16x4x2x53248x4, .i1⟩
  | .hbm, ⟨83, _⟩ => ⟨S_, .f32⟩
  | .hbm, ⟨84, _⟩ => ⟨S16x4x2x53248x4, .f32⟩
  | .hbm, ⟨85, _⟩ => ⟨S16x4x2x53248x4, .f32⟩
  | .hbm, ⟨86, _⟩ => ⟨S16x4x2x1024x4x4, .f32⟩
  | _, _ => ⟨S16x4x2x57344x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_3 : Ref sig .tc := ⟨.hbm, 18, rfl⟩
abbrev main_v13 : Ref sig .tc := ⟨.hbm, 19, rfl⟩
abbrev main_v14 : Ref sig .tc := ⟨.hbm, 20, rfl⟩
abbrev main_c_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_5 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_6 : Ref sig .tc := ⟨.hbm, 29, rfl⟩
abbrev main_v21 : Ref sig .tc := ⟨.hbm, 30, rfl⟩
abbrev main_v22 : Ref sig .tc := ⟨.hbm, 31, rfl⟩
abbrev main_c_7 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_8 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_call0_cst : Ref sig .tc := ⟨.hbm, 60, rfl⟩
abbrev main_call0_v15 : Ref sig .tc := ⟨.hbm, 61, rfl⟩
abbrev main_v29 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v30 : Ref sig .tc := ⟨.hbm, 85, rfl⟩
abbrev main_v31 : Ref sig .tc := ⟨.hbm, 86, rfl⟩

abbrev nD : Nat := 1
abbrev τ : Topo := Topo.v7x

variable {F : FTy → Type} [FloatOps F]
-- ==== Proof.Words.lean ====
/-
  The integer tables the kernel computes from the row and column numbers of a 128 × 128 tile, read at a row and a
  column: which rows a column picks from (two masks), and which column of the source it reads (index tables).
  Each is a word of the row and column alone, so each closed form is checked by evaluation over the columns.
-/
module

public import proofs.«01_k».proof.Proof.Gen.KernelIdeal.Skeleton
public import Idealize.ShloMosaic.Lib.Pointwise

@[expose] public section

set_option maxRecDepth 16384

noncomputable section

namespace Cert.KernelIdeal.Value

open Cert.KernelIdeal Cert.KernelIdeal.Gen Idealize.ShloMosaic

/-- The tile whose entry is its row number. -/
abbrev rows : IVec S128x128 32 := iota .tc S128x128 32 [0] iota_S128x128_d0_w32

/-- The tile whose entry is its column number. -/
abbrev cols : IVec S128x128 32 := iota .tc S128x128 32 [1] iota_S128x128_d1_w32

/-- The kernel's quotient of a row number: row `r` is in the group `r % 32 / 4` of its 32 rows. -/
theorem group32 (r c : Fin 128) :
    k0_pay8 k0_pay5 k0_pay6 k0_pay7 (ix2 r c) = BitVec.ofNat 32 (r.val % 32 / 4) := by
  pointwise [k0_pay8, k0_pay6, k0_pay7, k0_pay5]
  revert r; decide +kernel

/-- The same for 8 rows: row `r` is in the group `r % 8 / 4` of its 8 rows, and the mask of the data symbols is set
    where that group is the half of the lanes the column lies in. -/
theorem half_mask (r c : Fin 128) :
    k0_pay14 (k0_pay10 cols) (k0_pay11 rows) 4#32 (k0_pay12 rows) (k0_pay13 rows) (ix2 r c)
      = BitVec.ofBool (decide (c.val / 64 = r.val % 8 / 4)) := by
  pointwise [k0_pay14, k0_pay10, k0_pay12, k0_pay13, k0_pay11]
  revert r c; decide +kernel

/-- The mask of the pilots is set where the row's group is the sixteenth of the lanes the column lies in. -/
theorem eighth_mask (r c : Fin 128) :
    k0_pay15 cols (k0_pay8 k0_pay5 k0_pay6 k0_pay7) (ix2 r c)
      = BitVec.ofBool (decide (c.val / 16 = r.val % 32 / 4)) := by
  pointwise [k0_pay15]
  rw [group32]
  revert r c; decide +kernel

/-- The column the data symbols read: the odd column `2 (c % 64) + 1`. -/
theorem odd_col (r c : Fin 128) : k0_pay9 cols (ix2 r c) = BitVec.ofNat 32 (2 * (c.val % 64) + 1) := by
  pointwise [k0_pay9]
  revert c; decide +kernel

end Cert.KernelIdeal.Value
-- ==== Proof.Payload.lean ====
/-
  What the kernel's stored tiles hold, entry by entry. Two of the tiles keep the odd subcarriers of a pilot symbol
  (the data symbols between its pilots), eight keep one comb of its even subcarriers (the pilots). Each is built the
  same way: gather a column per entry, put zero off a mask, and add up the rows of a group. The mask leaves one row of
  each group, so every sum is one entry of the source tile.
-/
module

public import proofs.«01_k».proof.Proof.Words

@[expose] public section

set_option maxRecDepth 16384

noncomputable section

namespace Cert.KernelIdeal.Value

open Cert.KernelIdeal Cert.KernelIdeal.Gen Idealize.ShloMosaic

/-- A sum whose terms are put to zero except at one index is the term there. -/
theorem sum_masked {n : Nat} (k : Fin n) (M : Fin n → BitVec 1) (f : Fin n → EReal)
    (hM : ∀ a, M a = BitVec.ofBool (decide (k = a))) :
    ∑ a, Scalar.select (M a) (f a) 0 = f k := by
  rw [Finset.sum_eq_single k]
  · rw [hM, decide_eq_true rfl]; rfl
  · intro a _ ha
    rw [hM, decide_eq_false (Ne.symm ha)]; rfl
  · intro h; exact absurd (Finset.mem_univ k) h

/-- The pilot tiles. Column `j` of the source is gathered (`hJ`), the mask `M` keeps of each 32 rows the group the
    column's sixteenth names (`hM`), and the eight groups are added up: entry `(4p + k, l)` is the source's entry
    `(32p + 4(l / 16) + k, j)`. -/
theorem comb_apply (M : IVec S128x128 1) (J : IVec S128x128 32) (y : FVec Ideal S128x128 .f32)
    (z : Fin 1) (q : Fin 16) (l j : Fin 128)
    (hM : ∀ r c : Fin 128, M (ix2 r c) = BitVec.ofBool (decide (c.val / 16 = r.val % 32 / 4)))
    (hJ : ∀ r : Fin 128, (J (ix2 r l)).toNat % 128 = j.val) :
    shapeCast S1x16x128 (shapeCast S16x128 (multiReduction .add [1] S4x4x128
        (shapeCast S4x8x4x128 (select M (dynamicGather 1 y J)
          (broadcast S128x128 (Scalar.ofBits (F := Ideal) .f32 0x00000000#32))) shapeCasts_S128x128_S4x8x4x128)
        0x00000000#32 reduces_S4x8x4x128_S4x4x128 (.inl rfl) rfl) shapeCasts_S4x4x128_S16x128)
      shapeCasts_S16x128_S1x16x128 (ix3 z q l)
      = y (ix2 ⟨q.val / 4 * 32 + l.val / 16 * 4 + q.val % 4, by omega⟩ j) := by
  pointwise
  refine (sum_masked ⟨l.val / 16, by omega⟩ _ _ fun a => ?_).trans ?_
  · rw [hM]
    refine congrArg BitVec.ofBool (decide_eq_decide.mpr ?_)
    rw [Fin.ext_iff]
    dsimp only
    constructor <;> intro h <;> omega
  · exact congrArg y (congrArg _ (Fin.ext (hJ _)))

/-- The data tiles: the same with two groups of four rows to each eight. Entry `(4p + k, l)` is the source's entry
    `(8p + 4(l / 64) + k, j)`. -/
theorem odd_apply (M : IVec S128x128 1) (J : IVec S128x128 32) (y : FVec Ideal S128x128 .f32)
    (z : Fin 1) (q : Fin 64) (l j : Fin 128)
    (hM : ∀ r c : Fin 128, M (ix2 r c) = BitVec.ofBool (decide (c.val / 64 = r.val % 8 / 4)))
    (hJ : ∀ r : Fin 128, (J (ix2 r l)).toNat % 128 = j.val) :
    shapeCast S1x64x128 (shapeCast S64x128 (multiReduction .add [1] S16x4x128
        (shapeCast S16x2x4x128 (select M (dynamicGather 1 y J)
          (broadcast S128x128 (Scalar.ofBits (F := Ideal) .f32 0x00000000#32))) shapeCasts_S128x128_S16x2x4x128)
        0x00000000#32 reduces_S16x2x4x128_S16x4x128 (.inl rfl) rfl) shapeCasts_S16x4x128_S64x128)
      shapeCasts_S64x128_S1x64x128 (ix3 z q l)
      = y (ix2 ⟨q.val / 4 * 8 + l.val / 64 * 4 + q.val % 4, by omega⟩ j) := by
  pointwise
  refine (sum_masked ⟨l.val / 64, by omega⟩ _ _ fun a => ?_).trans ?_
  · rw [hM]
    refine congrArg BitVec.ofBool (decide_eq_decide.mpr ?_)
    rw [Fin.ext_iff]
    dsimp only
    constructor <;> intro h <;> omega
  · exact congrArg y (congrArg _ (Fin.ext (hJ _)))

/-- The mask of the data tiles, as the kernel computes it. -/
abbrev oddMask : IVec S128x128 1 := k0_pay14 (k0_pay10 cols) (k0_pay11 rows) 4#32 (k0_pay12 rows) (k0_pay13 rows)

/-- The mask of the pilot tiles, as the kernel computes it. -/
abbrev combMask : IVec S128x128 1 := k0_pay15 cols (k0_pay8 k0_pay5 k0_pay6 k0_pay7)

variable (x : Vec Ideal S1x128x128 .f32) (y : FVec Ideal S128x128 .f32) (z : Fin 1) (l : Fin 128)

/-- The loaded tile without its leading axis of one. -/
theorem tile_apply (r c : Fin 128) : k0_pay16 x (ix2 r c) = x (ix3 0 r c) := by
  pointwise [k0_pay16]

/-- The same tile as the second pilot symbol loads it. -/
theorem tile_apply' (r c : Fin 128) : k0_pay27 x (ix2 r c) = x (ix3 0 r c) := by
  pointwise [k0_pay27]

/-- The odd subcarriers of the first pilot symbol. -/
theorem odd_first (q : Fin 64) : k0_pay17 (k0_pay9 cols) oddMask x (ix3 z q l)
    = x (ix3 0 ⟨q.val / 4 * 8 + l.val / 64 * 4 + q.val % 4, by omega⟩ ⟨2 * (l.val % 64) + 1, by omega⟩) := by
  refine (odd_apply oddMask _ (k0_pay16 x) z q l ⟨2 * (l.val % 64) + 1, by omega⟩ half_mask fun r => ?_).trans
    (tile_apply x _ _)
  pointwise
  rw [odd_col]
  revert l; decide +kernel

/-- The odd subcarriers of the second pilot symbol. -/
theorem odd_second (q : Fin 64) : k0_pay28 (k0_pay9 cols) oddMask (k0_pay27 x) 0#32 (ix3 z q l)
    = x (ix3 0 ⟨q.val / 4 * 8 + l.val / 64 * 4 + q.val % 4, by omega⟩ ⟨2 * (l.val % 64) + 1, by omega⟩) := by
  refine (odd_apply oddMask _ (k0_pay27 x) z q l ⟨2 * (l.val % 64) + 1, by omega⟩ half_mask fun r => ?_).trans
    (tile_apply' x _ _)
  pointwise
  rw [odd_col]
  revert l; decide +kernel

/-- The entry a pilot tile holds: comb `i` of the symbol's even subcarriers, those numbered `2i` modulo 8. -/
abbrev combEntry (y : FVec Ideal S128x128 .f32) (i : Fin 4) (q : Fin 16) (l : Fin 128) : EReal :=
  y (ix2 ⟨q.val / 4 * 32 + l.val / 16 * 4 + q.val % 4, by omega⟩ ⟨8 * (l.val % 16) + 2 * i.val, by omega⟩)

variable (q : Fin 16)

/-- Comb 0 of the first pilot symbol. -/
theorem comb_first_0 : k0_pay21 combMask y (k0_pay18 cols) (k0_pay19 cols) (k0_pay20 cols) (ix3 z q l)
    = combEntry y 0 q l := by
  refine comb_apply combMask _ y z q l _ eighth_mask fun r => ?_
  pointwise [k0_pay19, k0_pay20, k0_pay18]
  revert l; decide +kernel

/-- Comb 1 of the first pilot symbol. -/
theorem comb_first_1 : k0_pay23 (k0_pay22 cols combMask y) (ix3 z q l) = combEntry y 1 q l := by
  refine comb_apply combMask _ y z q l _ eighth_mask fun r => ?_
  pointwise
  revert l; decide +kernel

/-- Comb 2 of the first pilot symbol. -/
theorem comb_first_2 : k0_pay25 (k0_pay24 cols combMask y) (ix3 z q l) = combEntry y 2 q l := by
  refine comb_apply combMask _ y z q l _ eighth_mask fun r => ?_
  pointwise
  revert l; decide +kernel

/-- Comb 3 of the first pilot symbol. -/
theorem comb_first_3 : k0_pay26 cols combMask y (ix3 z q l) = combEntry y 3 q l := by
  refine comb_apply combMask _ y z q l _ eighth_mask fun r => ?_
  pointwise
  revert l; decide +kernel

/-- Comb 0 of the second pilot symbol. -/
theorem comb_second_0 : k0_pay30 combMask y (k0_pay29 cols) (ix3 z q l) = combEntry y 0 q l := by
  refine comb_apply combMask _ y z q l _ eighth_mask fun r => ?_
  pointwise [k0_pay29]
  revert l; decide +kernel

/-- Comb 1 of the second pilot symbol. -/
theorem comb_second_1 : k0_pay32 (k0_pay31 cols combMask y) (ix3 z q l) = combEntry y 1 q l := by
  refine comb_apply combMask _ y z q l _ eighth_mask fun r => ?_
  pointwise
  revert l; decide +kernel

/-- Comb 2 of the second pilot symbol. -/
theorem comb_second_2 : k0_pay33 cols combMask y (ix3 z q l) = combEntry y 2 q l := by
  refine comb_apply combMask _ y z q l _ eighth_mask fun r => ?_
  pointwise
  revert l; decide +kernel

/-- Comb 3 of the second pilot symbol. -/
theorem comb_second_3 : k0_pay1 (k0_pay34 cols combMask y 16#32) (ix3 z q l) = combEntry y 3 q l := by
  refine comb_apply combMask _ y z q l _ eighth_mask fun r => ?_
  pointwise
  revert l; decide +kernel

/-- The rows before the first pilot symbol are copied. -/
theorem copy_head (x : Vec Ideal S1x256x128 .f32) (r : Fin 256) : k0_pay2 x (ix3 z r l) = x (ix3 z r l) := by
  pointwise [k0_pay2]

/-- The rows between the pilot symbols are copied. -/
theorem copy_middle (x : Vec Ideal S1x1024x128 .f32) (r : Fin 1024) : k0_pay3 x (ix3 z r l) = x (ix3 z r l) := by
  pointwise [k0_pay3]

/-- The rows after the second pilot symbol are copied. -/
theorem copy_tail (x : Vec Ideal S1x256x128 .f32) (r : Fin 256) : k0_pay4 x (ix3 z r l) = x (ix3 z r l) := by
  pointwise [k0_pay4]

end Cert.KernelIdeal.Value
-- ==== Proof.Block.lean ====
/-
  What one grid step leaves in its two output blocks, entry by entry: every entry of the data block and of the pilot
  block is one entry of the input block.
-/
module

public import proofs.«01_k».proof.Proof.Gen.KernelIdeal.Frame
public import proofs.«01_k».proof.Proof.Payload
public import Idealize.ShloMosaic.Lib.Pipeline.ValueKit
public import Idealize.ShloMosaic.Lib.Tactic.CleanTypes

@[expose] public section

set_option maxRecDepth 16384

noncomputable section

namespace Cert.KernelIdeal.Value

open Cert.KernelIdeal Cert.KernelIdeal.Gen Idealize.ShloMosaic Idealize.ShloMosaic.TcCoe Idealize.SL.Sem

/-- The input row that entry `(r, l)` of the pilot block comes from. -/
def pilotRow (r l : Nat) : Nat := (if r % 32 < 16 then 256 else 1408) + r % 16 / 4 * 32 + l / 16 * 4 + r % 4

/-- The input column that entry `(r, l)` of the pilot block comes from. -/
def pilotCol (r l : Nat) : Nat := 8 * (l % 16) + 2 * (r / 32)

/-- The input row that entry `(r, l)` of the data block comes from. -/
def dataRow (r l : Nat) : Nat :=
  if r < 256 then r
  else if r < 320 then 256 + (r - 256) / 4 * 8 + l / 64 * 4 + r % 4
  else if r < 1344 then r + 64
  else if r < 1408 then 1408 + (r - 1344) / 4 * 8 + l / 64 * 4 + r % 4
  else r + 128

/-- The input column that entry `(r, l)` of the data block comes from. -/
def dataCol (r l : Nat) : Nat :=
  if r < 256 then l else if r < 320 then 2 * (l % 64) + 1 else if r < 1344 then l
  else if r < 1408 then 2 * (l % 64) + 1 else l

/-- `pilotRow` stays in the slab. -/
theorem pilotRow_lt (r l : Fin 128) : pilotRow r l < 1792 := by unfold pilotRow; split <;> omega
/-- `pilotCol` stays in the slab. -/
theorem pilotCol_lt (r l : Fin 128) : pilotCol r l < 128 := by unfold pilotCol; omega
/-- `dataRow` stays in the slab. -/
theorem dataRow_lt (r : Fin 1664) (l : Fin 128) : dataRow r l < 1792 := by unfold dataRow; split_ifs <;> omega
/-- `dataCol` stays in the slab. -/
theorem dataCol_lt (r : Fin 1664) (l : Fin 128) : dataCol r l < 128 := by unfold dataCol; split_ifs <;> omega

variable (c : Dev nD) (i : grid0.Coords) (arg1 : Memref sig .tc .vmem S1x1792x128 .f32) (harg1 : arg1.IsWhole)
  (arg2 : Memref sig .tc .vmem S1x1664x128 .f32) (harg2 : arg2.IsWhole)
  (arg3 : Memref sig .tc .vmem S1x128x128 .f32) (harg3 : arg3.IsWhole) (v : Vec Ideal S1x1792x128 .f32)

/-- Some rows of the input block, loaded from row `o`, at an entry. -/
theorem load_apply {n : Nat} (o : Nat) (inb) (z z' : Fin 1) (q : Fin n) (l : Fin 128) (a : Fin 1792) (b : Fin 128)
    (ha : a.val = o + q.val) (hb : b.val = l.val) :
    View.ld v (Rect.unit (s := S1x1792x128) ![0, o, 0] ![1, n, 128] inb) (ix3 z q l) = v (ix3 z' a b) := by
  refine View.ld_unit_apply_of v _ _ _ _ _ fun d => ?_
  match d with
  | ⟨0, _⟩ => exact (Nat.lt_one_iff.mp z'.isLt).trans ((Nat.zero_add _).trans (Nat.lt_one_iff.mp z.isLt)).symm
  | ⟨1, _⟩ => exact ha
  | ⟨2, _⟩ => exact hb.trans (Nat.zero_add _).symm

/-- Comb `k` of the pilot symbol loaded at row `o` of the input block is, as entry `(q, l)` of the tile stored at row
    `32k + s` of the pilot block (`s` is 0 for the first symbol, 16 for the second), the entry of the input block the
    pilot block's row and column name. -/
theorem comb_entry (f : Vec Ideal S1x128x128 .f32 → FVec Ideal S128x128 .f32)
    (hf : ∀ w (a b : Fin 128), f w (ix2 a b) = w (ix3 0 a b)) (o s : Nat)
    (hs : s = 0 ∧ o = 256 ∨ s = 16 ∧ o = 1408) (inb) (k : Fin 4) (q : Fin 16) (l' : Fin 128) (z : Fin 1)
    (r l : Fin 128) (hr : r.val = 32 * k.val + s + q.val) (hl : l.val = l'.val) :
    combEntry (f (View.ld v (Rect.unit (s := S1x1792x128) ![0, o, 0] ![1, 128, 128] inb))) k q l'
      = v (ix3 z ⟨pilotRow r l, pilotRow_lt r l⟩ ⟨pilotCol r l, pilotCol_lt r l⟩) := by
  refine (hf _ _ _).trans (load_apply v o inb _ _ _ _ _ _ ?_ ?_)
  · dsimp only [pilotRow]
    rcases hs with hs | hs <;> split <;> omega
  · dsimp only [pilotCol]
    rcases hs with hs | hs <;> omega

set_option maxHeartbeats 2000000 in
/-- The pilot block's entries. -/
theorem pilot_block (z : Fin 1) (r l : Fin 128) :
    out0_A_2 c i arg1 harg1 arg2 harg2 arg3 harg3 v (ix3 z r l)
      = v (ix3 z ⟨pilotRow r l, pilotRow_lt r l⟩ ⟨pilotCol r l, pilotCol_lt r l⟩) := by
  frame_open
  simp (disch := decide) only [View.readAt_eq_ld, Memref.IsWhole.read_unread, View.read_writes_junk_eq_canon]
  canon_tiles x h
  all_goals
    idx_vars x
    clean_types
  · exact (comb_second_3 _ _ _ _).trans
      (comb_entry v _ tile_apply' 1408 16 (.inr ⟨rfl, rfl⟩) _ 3 _ _ z r l (by omega) h2)
  · exact (comb_second_2 _ _ _ _).trans
      (comb_entry v _ tile_apply' 1408 16 (.inr ⟨rfl, rfl⟩) _ 2 _ _ z r l (by omega) h2)
  · exact (comb_second_1 _ _ _ _).trans
      (comb_entry v _ tile_apply' 1408 16 (.inr ⟨rfl, rfl⟩) _ 1 _ _ z r l (by omega) h2)
  · exact (comb_second_0 _ _ _ _).trans
      (comb_entry v _ tile_apply' 1408 16 (.inr ⟨rfl, rfl⟩) _ 0 _ _ z r l (by omega) h2)
  · exact (comb_first_3 _ _ _ _).trans
      (comb_entry v _ tile_apply 256 0 (.inl ⟨rfl, rfl⟩) _ 3 _ _ z r l (by omega) h2)
  · exact (comb_first_2 _ _ _ _).trans
      (comb_entry v _ tile_apply 256 0 (.inl ⟨rfl, rfl⟩) _ 2 _ _ z r l (by omega) h2)
  · exact (comb_first_1 _ _ _ _).trans
      (comb_entry v _ tile_apply 256 0 (.inl ⟨rfl, rfl⟩) _ 1 _ _ z r l (by omega) h2)
  · exact (comb_first_0 _ _ _ _).trans
      (comb_entry v _ tile_apply 256 0 (.inl ⟨rfl, rfl⟩) _ 0 _ _ z r l (by omega) h2)

set_option maxHeartbeats 2000000 in
/-- The data block's entries. -/
theorem data_block (z : Fin 1) (r : Fin 1664) (l : Fin 128) :
    out0_A_1 c i arg1 harg1 arg2 harg2 arg3 harg3 v (ix3 z r l)
      = v (ix3 z ⟨dataRow r l, dataRow_lt r l⟩ ⟨dataCol r l, dataCol_lt r l⟩) := by
  frame_open
  simp (disch := decide) only [View.readAt_eq_ld, Memref.IsWhole.read_unread, View.read_writes_junk_eq_canon]
  canon_tiles x h using View.cover_of_tiledBy _ ![1, 64, 128] (by sl_kernel_rfl) _
  all_goals
    idx_vars x
    clean_types
  · refine (odd_second _ _ _ _).trans (load_apply v 1408 _ _ _ _ _ _ _ ?_ ?_)
    all_goals dsimp only [dataRow, dataCol]; split_ifs <;> omega
  · refine (odd_first _ _ _ _).trans (load_apply v 256 _ _ _ _ _ _ _ ?_ ?_)
    all_goals dsimp only [dataRow, dataCol]; split_ifs <;> omega
  · refine (copy_tail _ _ _ _).trans (load_apply v 1536 _ _ _ _ _ _ _ ?_ ?_)
    all_goals dsimp only [dataRow, dataCol]; split_ifs <;> omega
  · refine (copy_middle _ _ _ _).trans (load_apply v 384 _ _ _ _ _ _ _ ?_ ?_)
    all_goals dsimp only [dataRow, dataCol]; split_ifs <;> omega
  · refine (copy_head _ _ _ _).trans (load_apply v 0 _ _ _ _ _ _ _ ?_ ?_)
    all_goals dsimp only [dataRow, dataCol]; split_ifs <;> omega

end Cert.KernelIdeal.Value
-- ==== Proof.Arrays.lean ====
/-
  The two arrays the grid writes, entry by entry. Grid step `t` reads slab `t` of the staged input and writes slab `t`
  of each output, so every entry of an output is one entry of the same slab of the input.
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Every window's block at grid step `t` is slab `t`. -/
theorem slab : ∀ t : Fin cfg0.N, win0_0.index t = ![t.val, 0, 0] ∧ win0_1.index t = ![t.val, 0, 0]
    ∧ win0_2.index t = ![t.val, 0, 0] :=
  (by decide +kernel : ∀ t : Fin grid0.N, win0_0.index t = ![t.val, 0, 0] ∧ win0_1.index t = ![t.val, 0, 0]
    ∧ win0_2.index t = ![t.val, 0, 0])

/-- The data array as a function of the staged input. -/
def dataOf (x : FVec Ideal S128x1792x128 .f32) : FVec Ideal S128x1664x128 .f32 := fun j =>
  x (ix3 (j 0) ⟨dataRow (j 1).val (j 2).val, dataRow_lt (j 1) (j 2)⟩
    ⟨dataCol (j 1).val (j 2).val, dataCol_lt (j 1) (j 2)⟩)

/-- The pilot array as a function of the staged input. -/
def pilotOf (x : FVec Ideal S128x1792x128 .f32) : FVec Ideal S128x128x128 .f32 := fun j =>
  x (ix3 (j 0) ⟨pilotRow (j 1).val (j 2).val, pilotRow_lt (j 1) (j 2)⟩
    ⟨pilotCol (j 1).val (j 2).val, pilotCol_lt (j 1) (j 2)⟩)

/-- The data array after the run. -/
theorem data_array (c : Dev nD) : (dats m 0 c).arrAt 1 cfg0.N = dataOf (V m c main_call0_v2) := by
  refine (dats m 0 c).arrAt_eq_of_covers 1 _ (by decide +kernel) fun t _ y => ?_
  blk_simp
  rw [after0_1]
  unfold outsAt0 dataOf
  dsimp only
  obtain ⟨h0, h1, -⟩ := slab t
  idx_vars y
  refine (data_block c (grid0.coords t) _ _ _ _ _ _ (iblk m c 0 t) _ _ _).trans ?_
  blk_simp [iblk, h0, h1]
  blk_ext [h0, h1]

/-- The pilot array after the run. -/
theorem pilot_array (c : Dev nD) : (dats m 0 c).arrAt 2 cfg0.N = pilotOf (V m c main_call0_v2) := by
  refine (dats m 0 c).arrAt_eq_of_covers 2 _ (by decide +kernel) fun t _ y => ?_
  blk_simp
  rw [after0_2]
  unfold outsAt0 pilotOf
  dsimp only
  obtain ⟨h0, -, h2⟩ := slab t
  idx_vars y
  refine (pilot_block c (grid0.coords t) _ _ _ _ _ _ (iblk m c 0 t) _ _ _).trans ?_
  blk_simp [iblk, h0, h2]
  blk_ext [h0, h2]

end Cert.KernelIdeal.Value
-- ==== Proof.Subcarriers.lean ====
/-
  The two lists of resource elements, as functions of a position in the list. A slot is 14 symbols of 4096
  elements, 57344 in all; symbols 2 and 11 carry a pilot on every even element. The pilots are those elements in
  order, the data elements are all the others in order.
-/
module

public import Mathlib.Tactic.SplitIfs

@[expose] public section

namespace Cert.Subcarriers

/-- The element the `e`-th data symbol sits on: everything before the first pilot symbol, its odd subcarriers,
    everything between the two, the odd subcarriers of the second, everything after it. -/
def dataRe (e : Nat) : Nat :=
  if e < 8192 then e
  else if e < 10240 then 8193 + 2 * (e - 8192)
  else if e < 43008 then e + 2048
  else if e < 45056 then 45057 + 2 * (e - 43008)
  else e + 4096

/-- The element the `j`-th pilot sits on. -/
def pilotRe (j : Nat) : Nat := if j < 2048 then 8192 + 2 * j else 45056 + 2 * (j - 2048)

/-- A data element lies in the slot. -/
theorem dataRe_lt {e : Nat} (h : e < 53248) : dataRe e < 57344 := by unfold dataRe; split_ifs <;> omega

/-- A pilot lies in the slot. -/
theorem pilotRe_lt {j : Nat} (h : j < 4096) : pilotRe j < 57344 := by unfold pilotRe; split_ifs <;> omega

end Cert.Subcarriers
-- ==== Proof.KernelValue.lean ====
/-
  The kernel's two results, entry by entry, as entries of its argument: the host operations before the grid lay the
  argument out in slabs, those after it lay the two output arrays back out, and each is read through.
-/
module

public import proofs.«01_k».proof.Proof.Arrays
public import proofs.«01_k».proof.Proof.Subcarriers
public import Idealize.ShloMosaic.Lib.Pipeline.FrameTail

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Subcarriers

variable (m : (ℓ : Loc nD τ sig) → Buf (Elt Ideal) ℓ)

/-- The argument laid out in slabs. -/
def staged (X : FVec Ideal S16x4x2x57344x4 .f32) : FVec Ideal S128x1792x128 .f32 :=
  shapeCast S128x1792x128 (transpose S16x4x2x448x4x128 [0, 1, 2, 3, 5, 4]
    (shapeCast S16x4x2x448x128x4 X shapeCasts_S16x4x2x57344x4_S16x4x2x448x128x4)
    transposes_S16x4x2x448x128x4_S16x4x2x448x4x128_0_1_2_3_5_4) shapeCasts_S16x4x2x448x4x128_S128x1792x128

/-- The data array laid out as the first result. -/
def dataOut (A : FVec Ideal S128x1664x128 .f32) : FVec Ideal S16x4x2x53248x4 .f32 :=
  shapeCast S16x4x2x53248x4 (transpose S16x4x2x416x128x4 [0, 1, 2, 3, 5, 4]
    (shapeCast S16x4x2x416x4x128 A shapeCasts_S128x1664x128_S16x4x2x416x4x128)
    transposes_S16x4x2x416x4x128_S16x4x2x416x128x4_0_1_2_3_5_4) shapeCasts_S16x4x2x416x128x4_S16x4x2x53248x4

/-- The pilot array laid out as the second result. -/
def pilotOut (A : FVec Ideal S128x128x128 .f32) : FVec Ideal S16x4x2x1024x4x4 .f32 :=
  shapeCast S16x4x2x1024x4x4 (transpose S16x4x2x8x128x4x4 [0, 1, 2, 4, 6, 3, 5]
    (shapeCast S16x4x2x4x8x4x128 A shapeCasts_S128x128x128_S16x4x2x4x8x4x128)
    transposes_S16x4x2x4x8x4x128_S16x4x2x8x128x4x4_0_1_2_4_6_3_5) shapeCasts_S16x4x2x8x128x4x4_S16x4x2x1024x4x4

/-- The array the grid reads is the argument laid out in slabs. -/
theorem entry_array (c : Dev nD) : V m c main_call0_v2 = staged (m ((c : Thread nD τ).loc main_arg0)) := by
  unfold V V0 hostOps0
  simp only [List.flatten_cons, List.flatten_nil, List.append_nil]
  after_results
  rfl

/-- The first result is the data array laid out. -/
theorem exit_data (c : Dev nD) : Pipeline.afterTail₀ cfgs (dats m) 0 (V0 m) [hostOps1] c main_v0_0
    = dataOut ((dats m 0 c).arrAt 1 cfg0.N) := by
  unfold Pipeline.afterTail₀ hostOps1
  simp only [List.flatten_cons, List.flatten_nil, List.append_nil]
  after_results
  have h := Pipeline.withArrays_arr (cfgs 0).spec launch0.win.arr_inj c (V0 m c)
    (fun w => (dats m 0 c).arrAt w (cfgs 0).N) 1
  exact congrArg dataOut h

/-- The second result is the pilot array laid out. -/
theorem exit_pilot (c : Dev nD) : Pipeline.afterTail₀ cfgs (dats m) 0 (V0 m) [hostOps1] c main_v0_1
    = pilotOut ((dats m 0 c).arrAt 2 cfg0.N) := by
  unfold Pipeline.afterTail₀ hostOps1
  simp only [List.flatten_cons, List.flatten_nil, List.append_nil]
  after_results
  have h := Pipeline.withArrays_arr (cfgs 0).spec launch0.win.arr_inj c (V0 m c)
    (fun w => (dats m 0 c).arrAt w (cfgs 0).N) 2
  exact congrArg pilotOut h

/-- Two entries of the argument agree where their last two coordinates do. -/
theorem entry_congr (X : FVec Ideal S16x4x2x57344x4 .f32) (b : Fin 16) (t : Fin 4) (s : Fin 2) {e e' : Fin 57344}
    {n n' : Fin 4} (he : e.val = e'.val) (hn : n.val = n'.val) : X (ix5 b t s e n) = X (ix5 b t s e' n') := by
  rw [Fin.ext he, Fin.ext hn]

/-- The first result at an entry: the data elements of the argument, in order. -/
theorem data_apply (X : FVec Ideal S16x4x2x57344x4 .f32) (b : Fin 16) (t : Fin 4) (s : Fin 2) (e : Fin 53248)
    (n : Fin 4) :
    dataOut (dataOf (staged X)) (ix5 b t s e n) = X (ix5 b t s ⟨dataRe e, dataRe_lt e.isLt⟩ n) := by
  pointwise [dataOut]
  unfold dataOf
  pointwise [staged]
  refine entry_congr X b t s ?_ ?_
  all_goals
    dsimp only [dataRow, dataCol, dataRe]
    split_ifs <;> omega

/-- The second result at an entry: the pilots of the argument, in order, four to a row. -/
theorem pilot_apply (X : FVec Ideal S16x4x2x57344x4 .f32) (b : Fin 16) (t : Fin 4) (s : Fin 2) (e : Fin 1024)
    (i n : Fin 4) :
    pilotOut (pilotOf (staged X)) (ix6 b t s e i n)
      = X (ix5 b t s ⟨pilotRe (4 * e + i), pilotRe_lt (by omega)⟩ n) := by
  pointwise [pilotOut]
  unfold pilotOf
  pointwise [staged]
  refine entry_congr X b t s ?_ ?_
  all_goals
    dsimp only [pilotRow, pilotCol, pilotRe]
    split_ifs <;> omega

/-- A run of the kernel leaves the data elements in the first result, the pilots in the second, and the argument
  untouched. -/
theorem run (ρ : Dev nD → PrngReg) :
    θ_run defs (onTc (τ := τ) (main (F := Ideal))) ⟨m, fun _ => 0, ρ⟩ (fun r => ∀ c : Dev nD,
      r.2.mem ((c : Thread nD τ).loc main_v0_0) = dataOut (dataOf (staged (m ((c : Thread nD τ).loc main_arg0))))
      ∧ r.2.mem ((c : Thread nD τ).loc main_v0_1) = pilotOut (pilotOf (staged (m ((c : Thread nD τ).loc main_arg0))))
      ∧ r.2.mem ((c : Thread nD τ).loc main_arg0) = m ((c : Thread nD τ).loc main_arg0)) := by
  refine (θ_run defs _ _).mono (fun r h c => ⟨?_, ?_, ?_⟩) (run_main m ρ)
  · rw [(h c).2 main_v0_0 (Pipeline.mem_restRefs_of main_v0_0 (by decide) (by decide)), exit_data, data_array,
      entry_array]
  · rw [(h c).2 main_v0_1 (Pipeline.mem_restRefs_of main_v0_1 (by decide) (by decide)), exit_pilot, pilot_array,
      entry_array]
  · exact ((h c).2 main_arg0 (Pipeline.mem_restRefs_of main_arg0 (by decide) (by decide))).trans
      (W_main_arg0 m (dats m) c)

end Cert.KernelIdeal.Value
-- ==== Proof.Take.lean ====
/-
  A take along the fourth axis of five whose indices are in range: the wrap of negative indices changes none, the mask
  of indices out of range is set nowhere, and entry `(b, t, s, e, n)` is the operand's at the index `e` reads.
-/
module

public import Idealize.ShloMosaic.Lib.WordCmp
public import Idealize.ShloMosaic.Lib.ValueIdx
public import Idealize.ShloMosaic.Lib.Pointwise

@[expose] public section

set_option maxRecDepth 16384

noncomputable section

namespace Cert.Take

open Idealize.ShloMosaic

variable {α : Type} {s t u v : Shape}

/-- A word below 57344 is not negative and at most 57343, read signed. -/
theorem word_range {w : BitVec 32} (h : w.toNat < 57344) :
    IntOp.cmpi .slt w 0#32 = 0#1 ∧ IntOp.cmpi .sge w 0#32 = 1#1 ∧ IntOp.cmpi .sle w 57343#32 = 1#1 := by
  obtain ⟨k, hk, rfl⟩ : ∃ k, k < 57344 ∧ w = BitVec.ofNat 32 k := ⟨w.toNat, h, by simp⟩
  refine ⟨?_, ?_, ?_⟩
  all_goals
    simp (disch := word_cmp_side) only [hlo_ix]
    omega

/-- Wrapping the negative indices changes no index in range. -/
theorem wrap (I Z N : IVec s 32) (hZ : ∀ i, Z i = 0#32) (hI : ∀ i, (I i).toNat < 57344) :
    select (cmpi .slt I Z) (addi I N) I = I := by
  funext i
  have h : cmpi .slt I Z i = 0#1 := by
    show IntOp.cmpi .slt (I i) (Z i) = 0#1
    rw [hZ]; exact (word_range (hI i)).1
  simp only [select, h]
  rfl

/-- The conjunction of bits that are all set is set. -/
theorem all_set {axes : List (Fin s.rank)} (x : IVec s 1) (o : IVec u 1) (hx : ∀ i, x i = 1#1) (ho : ∀ i, o i = 1#1)
    (h : s.ReducesTo axes t) (hu : 0 < u.numel) (j : t.Idx) : Host.reduce IntOp.andi x o h hu j = 1#1 := by
  rw [Host.reduce_eq_foldl, ho]
  generalize List.filter _ _ = l
  induction l with
  | nil => rfl
  | cons a l ih => rw [List.foldl_cons, hx]; exact ih

/-- A broadcast of indices in range is in range. -/
theorem column {dims : Fin s.rank → Fin t.rank} (h : s.BroadcastsInDim t dims) (I : IVec s 32)
    (hI : ∀ i, (I i).toNat < 57344) (i : t.Idx) : (broadcastInDim t dims h I i).toNat < 57344 := hI _

/-- Where every index is in range, the filled take is the unfilled one. -/
theorem filled {axes : List (Fin s.rank)} {dims : Fin t.rank → Fin v.rank} (C Z T : IVec s 32) (o : IVec u 1)
    (G fill : v.Idx → α) (hb : t.BroadcastsInDim v dims) (h : s.ReducesTo axes t) (hu : 0 < u.numel)
    (hZ : ∀ i, Z i = 0#32) (hT : ∀ i, T i = 57343#32) (ho : ∀ i, o i = 1#1) (hC : ∀ i, (C i).toNat < 57344) :
    select (broadcastInDim v dims hb (Host.reduce IntOp.andi (andi (cmpi .sge C Z) (cmpi .sle C T)) o h hu)) G fill
      = G := by
  have hm : ∀ i, andi (cmpi .sge C Z) (cmpi .sle C T) i = 1#1 := fun i => by
    show IntOp.andi (IntOp.cmpi .sge (C i) (Z i)) (IntOp.cmpi .sle (C i) (T i)) = 1#1
    rw [hZ, hT, (word_range (hC i)).2.1, (word_range (hC i)).2.2]
    rfl
  funext j
  have hj : broadcastInDim v dims hb (Host.reduce IntOp.andi (andi (cmpi .sge C Z) (cmpi .sle C T)) o h hu) j = 1#1 :=
    all_set _ o hm ho h hu _
  simp only [select, hj]
  rfl

/-- The dimension numbers of a take of `n` entries along the fourth axis. -/
abbrev dims (n : Nat) (wf : GatherDims.WF ⟨5, ![16, 4, 2, 57344, 4]⟩ ⟨2, ![n, 1]⟩ ⟨5, ![16, 4, 2, n, 4]⟩
    [0, 1, 2, 4] [3] [] [3] [] 1 ![16, 4, 2, 1, 4]) :
    GatherDims ⟨5, ![16, 4, 2, 57344, 4]⟩ ⟨2, ![n, 1]⟩ ⟨5, ![16, 4, 2, n, 4]⟩ where
  offsetDims := [0, 1, 2, 4]
  collapsedSliceDims := [3]
  operandBatchingDims := []
  startIndicesBatchingDims := []
  startIndexMap := [3]
  indexVectorDim := 1
  sliceSizes := ![16, 4, 2, 1, 4]
  wf := wf

/-- The take at an entry: the operand's at the index the entry's position on the fourth axis reads. -/
theorem gather_apply {n : Nat} (wf) (x : (⟨5, ![16, 4, 2, 57344, 4]⟩ : Shape).Idx → α) (C : IVec ⟨2, ![n, 1]⟩ 32)
    (b : Fin 16) (k : Fin 4) (p : Fin 2) (e : Fin n) (q : Fin 4) (f : Fin 57344)
    (hC : C (ix2 e 0) = BitVec.ofNat 32 f.val) :
    Host.gather (dims n wf) x C (ix5 b k p e q) = x (ix5 b k p f q) := by
  unfold Host.gather
  congr 1
  have hi : (dims n wf).siIdx (ix5 b k p e q) ⟨0, Nat.one_pos⟩ = ix2 e 0 := by
    funext a; refine Fin.ext ?_
    match a with
    | ⟨0, _⟩ => rfl
    | ⟨1, _⟩ => rfl
  have hf : min (C (ix2 e 0)).toInt.toNat 57343 = f.val := by
    have := f.isLt
    rw [hC]
    simp (disch := word_cmp_side) only [hlo_ix]
    omega
  funext a; refine Fin.ext ?_
  match a with
  | ⟨0, _⟩ => exact (Nat.zero_add _)
  | ⟨1, _⟩ => exact (Nat.zero_add _)
  | ⟨2, _⟩ => exact (Nat.zero_add _)
  | ⟨3, _⟩ => exact (congrArg (fun i => min (C i).toInt.toNat 57343) hi).trans hf
  | ⟨4, _⟩ => exact (Nat.zero_add _)

end Cert.Take
-- ==== Proof.ReferenceValue.lean ====
/-
  The reference's two results, entry by entry, as entries of its argument: each takes the elements its table of
  positions names, and the two tables are the positions of the data elements and of the pilots.
-/
module

public import proofs.«01_k».proof.Proof.Gen.ReferenceIdeal.Run
public import proofs.«01_k».proof.Proof.Subcarriers
public import proofs.«01_k».proof.Proof.Take

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Subcarriers

variable (m : (ℓ : Loc nD τ sig) → Buf (Elt Ideal) ℓ)

/-- The vector of the words `a + 2 i`. -/
abbrev evens (a : BitVec 32) : IVec S2048 32 :=
  addi (broadcastInDim S2048 ![] bcast_S_S2048 (constantI S_ 32 a))
    (muli (broadcastInDim S2048 ![] bcast_S_S2048 (constantI S_ 32 2#32)) (iotaInDim S2048 32 0))

/-- The table of the positions of the pilots. -/
abbrev pilotTable : IVec S4096 32 :=
  concatenate S4096 0 [⟨S2048, evens 8192#32⟩, ⟨S2048, evens 45056#32⟩] concatenates_S2048_S2048_S4096_d0

/-- The table of the positions of the data elements. -/
abbrev dataTable : IVec S53248 32 :=
  concatenate S53248 0 [⟨S8192, iotaInDim S8192 32 0⟩, ⟨S2048, evens 8193#32⟩,
    ⟨S32768, addi (broadcastInDim S32768 ![] bcast_S_S32768 (constantI S_ 32 12288#32)) (iotaInDim S32768 32 0)⟩,
    ⟨S2048, evens 45057#32⟩,
    ⟨S8192, addi (broadcastInDim S8192 ![] bcast_S_S8192 (constantI S_ 32 49152#32)) (iotaInDim S8192 32 0)⟩]
    concatenates_S8192_S2048_S32768_S2048_S8192_S53248_d0

/-- Entry `j` of the pilots' table is the position of pilot `j`. -/
theorem pilotTable_apply (j : Fin 4096) : pilotTable (ix1 j) = BitVec.ofNat 32 (pilotRe j) := by
  unfold pilotRe
  pointwise [pilotTable, evens, hlo_ix]
  split_ifs <;> first
    | omega
    | (refine BitVec.eq_of_toNat_eq ?_
       simp only [IntOp.addi, IntOp.muli, BitVec.toNat_add, BitVec.toNat_mul, BitVec.toNat_ofNat] <;> omega)

/-- Entry `e` of the data table is the position of data element `e`. -/
theorem dataTable_apply (e : Fin 53248) : dataTable (ix1 e) = BitVec.ofNat 32 (dataRe e) := by
  unfold dataRe
  pointwise [dataTable, evens, hlo_ix]
  split_ifs <;> first
    | omega
    | (refine BitVec.eq_of_toNat_eq ?_
       simp only [IntOp.addi, IntOp.muli, BitVec.toNat_add, BitVec.toNat_mul, BitVec.toNat_ofNat] <;> omega)

/-- Every entry of the pilots' table is in range. -/
theorem pilotTable_lt (i : S4096.Idx) : (pilotTable i).toNat < 57344 := by
  idx_vars i
  rw [pilotTable_apply, BitVec.toNat_ofNat]
  exact lt_of_le_of_lt (Nat.mod_le _ _) (pilotRe_lt (Fin.isLt _))

/-- Every entry of the data table is in range. -/
theorem dataTable_lt (i : S53248.Idx) : (dataTable i).toNat < 57344 := by
  idx_vars i
  rw [dataTable_apply, BitVec.toNat_ofNat]
  exact lt_of_le_of_lt (Nat.mod_le _ _) (dataRe_lt (Fin.isLt _))

/-- The reference's first result takes the data table's positions. -/
theorem data_take (c : Dev nD) : res_out0 m c
    = Host.gather gather_S16x4x2x57344x4_S53248x1_S16x4x2x53248x4_0124_3_n_n_3_1_164214
        (m ((c.tc : Thread nD τ).loc main_arg0))
        (broadcastInDim S53248x1 ![0] bcast_S53248_S53248x1_0 dataTable) := by
  unfold res_out0 res_main_v30
  have hw := Take.wrap dataTable (broadcastInDim S53248 ![] bcast_S_S53248 (constantI S_ 32 0#32))
    (broadcastInDim S53248 ![] bcast_S_S53248 (constantI S_ 32 57344#32)) (fun _ => rfl) dataTable_lt
  rw [hw]
  exact Take.filled _ _ _ _ _ _ _ _ _ (fun _ => rfl) (fun _ => rfl) (fun _ => rfl) (Take.column _ _ dataTable_lt)

/-- The reference's second result takes the pilots' table's positions, four to a row. -/
theorem pilot_take (c : Dev nD) : res_out1 m c
    = shapeCast S16x4x2x1024x4x4 (Host.gather gather_S16x4x2x57344x4_S4096x1_S16x4x2x4096x4_0124_3_n_n_3_1_164214
        (m ((c.tc : Thread nD τ).loc main_arg0))
        (broadcastInDim S4096x1 ![0] bcast_S4096_S4096x1_0 pilotTable))
      shapeCasts_S16x4x2x4096x4_S16x4x2x1024x4x4 := by
  unfold res_out1 res_main_v31
  have hw := Take.wrap pilotTable (broadcastInDim S4096 ![] bcast_S_S4096 (constantI S_ 32 0#32))
    (broadcastInDim S4096 ![] bcast_S_S4096 (constantI S_ 32 57344#32)) (fun _ => rfl) pilotTable_lt
  refine congrArg (fun G => shapeCast S16x4x2x1024x4x4 G shapeCasts_S16x4x2x4096x4_S16x4x2x1024x4x4) ?_
  rw [hw]
  exact Take.filled _ _ _ _ _ _ _ _ _ (fun _ => rfl) (fun _ => rfl) (fun _ => rfl) (Take.column _ _ pilotTable_lt)

/-- The reference's first result at an entry: the data elements of the argument, in order. -/
theorem data_apply (c : Dev nD) (b : Fin 16) (t : Fin 4) (s : Fin 2) (e : Fin 53248) (n : Fin 4) :
    res_out0 m c (ix5 b t s e n)
      = m ((c.tc : Thread nD τ).loc main_arg0) (ix5 b t s ⟨dataRe e, dataRe_lt e.isLt⟩ n) := by
  rw [data_take]
  refine Take.gather_apply _ _ _ b t s e n ⟨dataRe e, dataRe_lt e.isLt⟩ ?_
  have h := dataTable_apply e
  generalize dataTable = T at h
  pointwise
  exact h

/-- The reference's second result at an entry: the pilots of the argument, in order, four to a row. -/
theorem pilot_apply (c : Dev nD) (b : Fin 16) (t : Fin 4) (s : Fin 2) (e : Fin 1024) (i n : Fin 4) :
    res_out1 m c (ix6 b t s e i n)
      = m ((c.tc : Thread nD τ).loc main_arg0) (ix5 b t s ⟨pilotRe (4 * e + i), pilotRe_lt (by omega)⟩ n) := by
  rw [pilot_take]
  refine Eq.trans (b := Host.gather gather_S16x4x2x57344x4_S4096x1_S16x4x2x4096x4_0124_3_n_n_3_1_164214
    (m ((c.tc : Thread nD τ).loc main_arg0)) (broadcastInDim S4096x1 ![0] bcast_S4096_S4096x1_0 pilotTable)
    (ix5 b t s ⟨4 * e + i, by omega⟩ n)) ?_ ?_
  · generalize Host.gather _ _ _ = G
    pointwise
    exact congrArg (fun k => G (ix5 b t s k n)) (Fin.ext (by dsimp only; omega))
  · refine Take.gather_apply _ _ _ b t s ⟨4 * e + i, by omega⟩ n ⟨pilotRe (4 * e + i), pilotRe_lt (by omega)⟩ ?_
    have h := pilotTable_apply ⟨4 * e + i, by omega⟩
    generalize pilotTable = T at h
    pointwise
    exact h

end Cert.ReferenceIdeal.Value
-- ==== Proof.Equal.lean ====
/-
  The kernel and the reference leave equal results: entry by entry both are the same entry of the argument.
-/
module

public import proofs.«01_k».proof.Proof.KernelValue
public import proofs.«01_k».proof.Proof.ReferenceValue

@[expose] public section

set_option maxRecDepth 16384

noncomputable section

namespace Cert.Equal

open Idealize.ShloMosaic Idealize.ShloMosaic.TcCoe Idealize.SL.Sem

variable (m : (ℓ : Loc Cert.ReferenceIdeal.nD Cert.ReferenceIdeal.τ Cert.ReferenceIdeal.sig) → Buf (Elt Ideal) ℓ)

/-- The reference's first result is the kernel's, of the same argument. -/
theorem data (c : Dev Cert.ReferenceIdeal.nD) (X : FVec Ideal Cert.KernelIdeal.S16x4x2x57344x4 .f32)
    (h : m ((c.tc : Thread Cert.ReferenceIdeal.nD Cert.ReferenceIdeal.τ).loc Cert.ReferenceIdeal.main_arg0) = X) :
    Cert.ReferenceIdeal.Value.res_out0 m c
      = Cert.KernelIdeal.Value.dataOut (Cert.KernelIdeal.Value.dataOf (Cert.KernelIdeal.Value.staged X)) := by
  funext j
  obtain ⟨b, t, s, e, n, rfl⟩ : ∃ b t s e n, j = ix5 b t s e n := ⟨_, _, _, _, _, eq_ix5 j⟩
  refine (Cert.ReferenceIdeal.Value.data_apply m c b t s e n).trans ?_
  rw [h]
  exact (Cert.KernelIdeal.Value.data_apply X b t s e n).symm

/-- The reference's second result is the kernel's, of the same argument. -/
theorem pilot (c : Dev Cert.ReferenceIdeal.nD) (X : FVec Ideal Cert.KernelIdeal.S16x4x2x57344x4 .f32)
    (h : m ((c.tc : Thread Cert.ReferenceIdeal.nD Cert.ReferenceIdeal.τ).loc Cert.ReferenceIdeal.main_arg0) = X) :
    Cert.ReferenceIdeal.Value.res_out1 m c
      = Cert.KernelIdeal.Value.pilotOut (Cert.KernelIdeal.Value.pilotOf (Cert.KernelIdeal.Value.staged X)) := by
  funext j
  obtain ⟨b, t, s, e, i, n, rfl⟩ : ∃ b t s e i n, j = ix6 b t s e i n := ⟨_, _, _, _, _, _, eq_ix6 j⟩
  refine (Cert.ReferenceIdeal.Value.pilot_apply m c b t s e i n).trans ?_
  rw [h]
  exact (Cert.KernelIdeal.Value.pilot_apply X b t s e i n).symm

end Cert.Equal
-- ==== Proof.lean ====
/-
  The certificate's claims, assembled: the three programs run and keep their arguments, the idealization is the
  program's own text, and at the ideal numbers the kernel and the reference leave equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Equal
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, keeps its argument and ends with every counter at zero. -/
theorem reference_frame : Cert.quiescent_ReferenceIdeal := by
  intro m g _
  refine (θ_run _ _ _).mono (fun r hr => ⟨fun c => (hr c).2.2, ?_⟩) (Cert.ReferenceIdeal.Value.run m g)
  exact sem_eq_zero_of_no_sems rfl r.2

/-- From the same argument the kernel and the reference end with equal results and the argument unchanged. -/
theorem equal_results : Cert.algebraic_KernelIdeal_ReferenceIdeal := by
  intro m g m' g' _ h
  refine ⟨fun c => _, fun c => _, Cert.KernelIdeal.Value.run m g, ?_⟩
  refine (θ_run _ _ _).mono (fun r hr c => ?_) (Cert.ReferenceIdeal.Value.run m' g')
  exact ⟨(hr c).1.trans (Cert.Equal.data m' c _ (h c)), (hr c).2.1.trans (Cert.Equal.pilot m' c _ (h c)), (hr c).2.2⟩

/-- Everything the certificate claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    equal_results⟩

end Cert.Proof

end
